-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S32768x64 : Shape := ⟨2, ![32768, 64]⟩
abbrev S32768x4 : Shape := ⟨2, ![32768, 4]⟩
abbrev S17 : Shape := ⟨1, ![17]⟩
abbrev S64x128 : Shape := ⟨2, ![64, 128]⟩
abbrev S128 : Shape := ⟨1, ![128]⟩
abbrev S16 : Shape := ⟨1, ![16]⟩
abbrev S_ : Shape := ⟨0, ![]⟩

class Facts : Prop where
  slices_S17_S16_0 : S17.Slices ![0] S16
  slices_S17_S16_1 : S17.Slices ![1] S16
  bcast_S_S32768x64 : S_.BroadcastsInDim S32768x64 (![] : Fin 0 → Fin S32768x64.rank)
  bcast_S_S32768x4 : S_.BroadcastsInDim S32768x4 (![] : Fin 0 → Fin S32768x4.rank)
  bcast_S_S64x128 : S_.BroadcastsInDim S64x128 (![] : Fin 0 → Fin S64x128.rank)
  bcast_S_S128 : S_.BroadcastsInDim S128 (![] : Fin 0 → Fin S128.rank)

variable [Facts]

def fn {F : FTy → Type} [FloatOps F] (main_arg0 : FVec F S32768x64 .f32) (main_arg1 : FVec F S32768x4 .f32) (main_arg2 : IVec S17 32) (main_arg3 : FVec F S64x128 .f32) (main_arg4 : FVec F S128 .f32) : IVec S16 1 × IVec S32768x64 1 × IVec S32768x4 1 × IVec S64x128 1 × IVec S128 1 :=
  let main_v0 : IVec S16 32 := (extractStridedSlice S16 ![0] · slices_S17_S16_0) main_arg2
  let main_v1 : IVec S16 32 := (extractStridedSlice S16 ![1] · slices_S17_S16_1) main_arg2
  let main_v2 : IVec S16 1 := cmpi .sle main_v0 main_v1
  let main_v3 : FVec F S32768x64 .f32 := Host.absf main_arg0
  let main_cst : FVec F S_ .f32 := constant S_ .f32 0x7F800000#32
  let main_v4 : FVec F S32768x64 .f32 := broadcastInDim S32768x64 ![] bcast_S_S32768x64 main_cst
  let main_v5 : IVec S32768x64 1 := cmpf .olt main_v3 main_v4
  let main_v6 : FVec F S32768x4 .f32 := Host.absf main_arg1
  let main_cst_0 : FVec F S_ .f32 := constant S_ .f32 0x7F800000#32
  let main_v7 : FVec F S32768x4 .f32 := broadcastInDim S32768x4 ![] bcast_S_S32768x4 main_cst_0
  let main_v8 : IVec S32768x4 1 := cmpf .olt main_v6 main_v7
  let main_v9 : FVec F S64x128 .f32 := Host.absf main_arg3
  let main_cst_1 : FVec F S_ .f32 := constant S_ .f32 0x7F800000#32
  let main_v10 : FVec F S64x128 .f32 := broadcastInDim S64x128 ![] bcast_S_S64x128 main_cst_1
  let main_v11 : IVec S64x128 1 := cmpf .olt main_v9 main_v10
  let main_v12 : FVec F S128 .f32 := Host.absf main_arg4
  let main_cst_2 : FVec F S_ .f32 := constant S_ .f32 0x7F800000#32
  let main_v13 : FVec F S128 .f32 := broadcastInDim S128 ![] bcast_S_S128 main_cst_2
  let main_v14 : IVec S128 1 := cmpf .olt main_v12 main_v13
  (main_v2, main_v5, main_v8, main_v11, main_v14)
-- ==== Kernel.lean ====
abbrev S32768x64 : Shape := ⟨2, ![32768, 64]⟩
abbrev S32768x4 : Shape := ⟨2, ![32768, 4]⟩
abbrev S17 : Shape := ⟨1, ![17]⟩
abbrev S64x128 : Shape := ⟨2, ![64, 128]⟩
abbrev S128 : Shape := ⟨1, ![128]⟩
abbrev S64x32x4 : Shape := ⟨3, ![64, 32, 4]⟩
abbrev S4x64x32 : Shape := ⟨3, ![4, 64, 32]⟩
abbrev S256x32 : Shape := ⟨2, ![256, 32]⟩
abbrev S32x4 : Shape := ⟨2, ![32, 4]⟩
abbrev S4x32 : Shape := ⟨2, ![4, 32]⟩
abbrev S4x32768 : Shape := ⟨2, ![4, 32768]⟩
abbrev S16x32 : Shape := ⟨2, ![16, 32]⟩
abbrev S16384x64 : Shape := ⟨2, ![16384, 64]⟩
abbrev S4x16384 : Shape := ⟨2, ![4, 16384]⟩
abbrev S64x64 : Shape := ⟨2, ![64, 64]⟩
abbrev S64x1 : Shape := ⟨2, ![64, 1]⟩
abbrev S1x16384 : Shape := ⟨2, ![1, 16384]⟩
abbrev S1 : Shape := ⟨1, ![1]⟩
abbrev S64x16384 : Shape := ⟨2, ![64, 16384]⟩
abbrev S64 : Shape := ⟨1, ![64]⟩
abbrev S16x64 : Shape := ⟨2, ![16, 64]⟩
abbrev S64x32 : Shape := ⟨2, ![64, 32]⟩
abbrev S16x1 : Shape := ⟨2, ![16, 1]⟩
abbrev S1x32 : Shape := ⟨2, ![1, 32]⟩

abbrev nBuf : Space → Nat
  | .hbm => 12
  | .vmem => 9
  | .smem => 1
  | _ => 0

abbrev bufTy : (tb : Table) → Fin (tcTables nBuf tb) → BufTy
  | .hbm, ⟨0, _⟩ => ⟨S32768x64, .f32⟩
  | .hbm, ⟨1, _⟩ => ⟨S32768x4, .f32⟩
  | .hbm, ⟨2, _⟩ => ⟨S17, .i32⟩
  | .hbm, ⟨3, _⟩ => ⟨S64x128, .f32⟩
  | .hbm, ⟨4, _⟩ => ⟨S128, .f32⟩
  | .hbm, ⟨5, _⟩ => ⟨S64x32x4, .f32⟩
  | .hbm, ⟨6, _⟩ => ⟨S4x64x32, .f32⟩
  | .hbm, ⟨7, _⟩ => ⟨S256x32, .f32⟩
  | .hbm, ⟨8, _⟩ => ⟨S32x4, .f32⟩
  | .hbm, ⟨9, _⟩ => ⟨S4x32, .f32⟩
  | .hbm, ⟨10, _⟩ => ⟨S4x32768, .f32⟩
  | .hbm, ⟨11, _⟩ => ⟨S16x32, .f32⟩
  | .local _ .vmem, ⟨0, _⟩ => ⟨S16384x64, .f32⟩
  | .local _ .vmem, ⟨1, _⟩ => ⟨S16384x64, .f32⟩
  | .local _ .vmem, ⟨2, _⟩ => ⟨S4x16384, .f32⟩
  | .local _ .vmem, ⟨3, _⟩ => ⟨S4x16384, .f32⟩
  | .local _ .vmem, ⟨4, _⟩ => ⟨S256x32, .f32⟩
  | .local _ .vmem, ⟨5, _⟩ => ⟨S4x32, .f32⟩
  | .local _ .vmem, ⟨6, _⟩ => ⟨S16x32, .f32⟩
  | .local _ .vmem, ⟨7, _⟩ => ⟨S64x64, .f32⟩
  | .local _ .vmem, ⟨8, _⟩ => ⟨S64x1, .f32⟩
  | .local _ .smem, ⟨0, _⟩ => ⟨S17, .i32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32_33 : BitVec 32 := 1#32
  let v177 : BitVec 1 := Scalar.cmpi .eq arg0 c1_i32_33
  let v178 : BitVec 32 := Scalar.extui v177
  let c0_i32_34 : BitVec 32 := 0#32
  let v179 : BitVec 1 := Scalar.cmpi .ne v178 c0_i32_34
  v179

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32768x64 : Shape := ⟨2, ![32768, 64]⟩
abbrev S32768x4 : Shape := ⟨2, ![32768, 4]⟩
abbrev S17 : Shape := ⟨1, ![17]⟩
abbrev S64x128 : Shape := ⟨2, ![64, 128]⟩
abbrev S128 : Shape := ⟨1, ![128]⟩
abbrev S32768x128 : Shape := ⟨2, ![32768, 128]⟩
abbrev S1x128 : Shape := ⟨2, ![1, 128]⟩
abbrev S32768x32x4 : Shape := ⟨3, ![32768, 32, 4]⟩
abbrev S32768x1x4 : Shape := ⟨3, ![32768, 1, 4]⟩
abbrev S_ : Shape := ⟨0, ![]⟩
abbrev S32768x32 : Shape := ⟨2, ![32768, 32]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S16x32 : Shape := ⟨2, ![16, 32]⟩

abbrev nBuf : Space → Nat
  | .hbm => 39
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768x4, .f32⟩
  | .hbm, ⟨2, _⟩ => ⟨S17, .i32⟩
  | .hbm, ⟨3, _⟩ => ⟨S64x128, .f32⟩
  | .hbm, ⟨4, _⟩ => ⟨S128, .f32⟩
  | .hbm, ⟨5, _⟩ => ⟨S32768x128, .f32⟩
  | .hbm, ⟨6, _⟩ => ⟨S1x128, .f32⟩
  | .hbm, ⟨7, _⟩ => ⟨S32768x128, .f32⟩
  | .hbm, ⟨8, _⟩ => ⟨S32768x128, .f32⟩
  | .hbm, ⟨9, _⟩ => ⟨S32768x32x4, .f32⟩
  | .hbm, ⟨10, _⟩ => ⟨S32768x1x4, .f32⟩
  | .hbm, ⟨11, _⟩ => ⟨S32768x32x4, .f32⟩
  | .hbm, ⟨12, _⟩ => ⟨S32768x32x4, .f32⟩
  | .hbm, ⟨13, _⟩ => ⟨S_, .f32⟩
  | .hbm, ⟨14, _⟩ => ⟨S32768x32, .f32⟩
  | .hbm, ⟨15, _⟩ => ⟨S32768, .i32⟩
  | .hbm, ⟨16, _⟩ => ⟨S1x17, .i32⟩
  | .hbm, ⟨17, _⟩ => ⟨S32768x1, .i32⟩
  | .hbm, ⟨18, _⟩ => ⟨S32768x17, .i32⟩
  | .hbm, ⟨19, _⟩ => ⟨S32768x17, .i32⟩
  | .hbm, ⟨20, _⟩ => ⟨S32768x17, .i1⟩
  | .hbm, ⟨21, _⟩ => ⟨S32768x17, .i32⟩
  | .hbm, ⟨22, _⟩ => ⟨S_, .i32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S_, .f32⟩
  | .hbm, ⟨36, _⟩ => ⟨S16x32, .f32⟩
  | .hbm, ⟨37, _⟩ => ⟨S32768x1, .i32⟩
  | .hbm, ⟨38, _⟩ => ⟨S16x32, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.Segment.lean ====
module

public import proofs.«01_k».proof.Defs
public import Idealize.ShloMosaic.Lib.Pointwise
public import Idealize.ShloMosaic.Lib.WordCmp

/-! Segment numbers of nodes, as natural numbers, and why the two ways of counting agree on sorted row splits. -/

@[expose] public section

set_option maxRecDepth 16384

noncomputable section

namespace Cert.Segment

open Idealize.ShloMosaic Idealize.ShloMosaic.WordCmp

/-- One when row split `j` is at most the node number `n`, zero otherwise. -/
def reached (rs : Fin 17 → BitVec 32) (n : ℕ) (j : Fin 17) : ℕ := if (rs j).toInt ≤ (n : ℤ) then 1 else 0

/-- The kernel's segment of node `n`: how many of the fifteen inner row splits it has reached. -/
def inner (rs : Fin 17 → BitVec 32) (n : ℕ) : ℕ := ∑ j : Fin 15, reached rs n j.succ.castSucc

/-- The reference's segment of node `n`: how many of all seventeen row splits it has reached, less one, kept in 0..15. -/
def segment (rs : Fin 17 → BitVec 32) (n : ℕ) : ℕ := min 15 ((∑ j, reached rs n j) - 1)

/-- The weight column of output unit `u` and coordinate `k`. -/
def column (u : Fin 32) (k : Fin 4) : Fin 128 := ⟨4 * u.val + k.val, by omega⟩

/-- A comparison contributes at most one. -/
theorem reached_le (rs : Fin 17 → BitVec 32) (n : ℕ) (j : Fin 17) : reached rs n j ≤ 1 := by
  unfold reached; split <;> omega

/-- The inner count is at most fifteen. -/
theorem inner_le (rs : Fin 17 → BitVec 32) (n : ℕ) : inner rs n ≤ 15 := by
  calc inner rs n ≤ ∑ _j : Fin 15, 1 := Finset.sum_le_sum fun j _ => reached_le rs n _
    _ = 15 := by simp

/-- A sum over the fifteen inner indices, written out. -/
theorem sum_inner (f : Fin 17 → ℕ) : ∑ j : Fin 15, f j.succ.castSucc =
    0 + f 1 + f 2 + f 3 + f 4 + f 5 + f 6 + f 7 + f 8 + f 9 + f 10 + f 11 + f 12 + f 13 + f 14 + f 15 := by
  iterate 15 rw [Fin.sum_univ_castSucc]
  rw [Fin.sum_univ_zero]
  rfl

/-- All seventeen comparisons are the first, the fifteen inner ones and the last. -/
theorem sum_reached (rs : Fin 17 → BitVec 32) (n : ℕ) :
    ∑ j, reached rs n j = reached rs n 0 + inner rs n + reached rs n (Fin.last 16) := by
  rw [Fin.sum_univ_castSucc, Fin.sum_univ_succ]; rfl

/-- On sorted row splits the kernel's count of inner splits is the reference's segment. -/
theorem segment_eq_inner (rs : Fin 17 → BitVec 32) (hrs : Monotone fun j => (rs j).toInt) (n : ℕ) :
    segment rs n = inner rs n := by
  have hmono : Antitone (reached rs n) := fun a b hab => by
    have := hrs hab
    unfold reached
    dsimp only at this
    split_ifs <;> omega
  have hle := inner_le rs n
  have hfirst : reached rs n 0 = 0 → inner rs n = 0 := fun h =>
    Finset.sum_eq_zero fun j _ => by
    have := hmono (Fin.zero_le j.succ.castSucc)
    omega
  have hlast : reached rs n (Fin.last 16) = 1 → 15 ≤ inner rs n := fun h => by
    calc 15 = ∑ _j : Fin 15, 1 := by simp
      _ ≤ _ := Finset.sum_le_sum fun j _ => by
        have hj : reached rs n (Fin.last 16) ≤ reached rs n j.succ.castSucc := hmono (Fin.le_last _)
        rw [h] at hj
        exact hj
  have h0 := reached_le rs n 0
  have h16 := reached_le rs n (Fin.last 16)
  have h016 : reached rs n (Fin.last 16) ≤ reached rs n 0 := hmono (Fin.zero_le _)
  unfold segment
  rw [sum_reached]
  omega

/-- A comparison bit, widened to a word, is the word of `reached`. -/
theorem word_reached (rs : Fin 17 → BitVec 32) (n : ℕ) (hn : n < 2 ^ 31) (j : Fin 17) :
    (IntOp.cmpi .sle (rs j) (BitVec.ofNat 32 n)).setWidth 32 = BitVec.ofNat 32 (reached rs n j) := by
  rw [cmpi_sle_eq, toInt_ofNat_of_lt (by omega)]
  unfold reached
  by_cases h : (rs j).toInt ≤ (n : ℤ) <;> simp [h]

/-- The same with the comparison written from the node's side. -/
theorem word_reached_ge (rs : Fin 17 → BitVec 32) (n : ℕ) (hn : n < 2 ^ 31) (j : Fin 17) :
    (IntOp.cmpi .sge (BitVec.ofNat 32 n) (rs j)).setWidth 32 = BitVec.ofNat 32 (reached rs n j) := by
  rw [cmpi_sge_eq, toInt_ofNat_of_lt (by omega)]
  unfold reached
  by_cases h : (rs j).toInt ≤ (n : ℤ) <;> simp [h]

/-- Adding words of naturals is the word of their sum. -/
theorem addi_ofNat (a b : ℕ) : IntOp.addi (BitVec.ofNat 32 a) (BitVec.ofNat 32 b) = BitVec.ofNat 32 (a + b) :=
  (BitVec.ofNat_add a b).symm

/-- Folding word addition over words of naturals gives the word of their sum. -/
theorem fold_addi_ofNat {ι : Type} (s : Finset ι) (f : ι → ℕ) :
    s.fold IntOp.addi 0#32 (fun j => BitVec.ofNat 32 (f j)) = BitVec.ofNat 32 (∑ j ∈ s, f j) := by
  classical
  induction s using Finset.induction_on with
  | empty => rfl
  | insert a s ha ih => rw [Finset.fold_insert ha, ih, addi_ofNat, Finset.sum_insert ha]

/-- Two small naturals have the same word exactly when they are equal, as a comparison bit. -/
theorem cmpi_eq_ofNat (a b : ℕ) (ha : a < 2 ^ 31) (hb : b < 2 ^ 31) :
    IntOp.cmpi .eq (BitVec.ofNat 32 a) (BitVec.ofNat 32 b) = BitVec.ofBool (decide (a = b)) := by
  rw [cmpi_eq_eq]
  congr 1
  rw [decide_eq_decide]
  exact ⟨fun h => by
    have := congrArg BitVec.toNat h
    simp only [BitVec.toNat_ofNat] at this
    omega, fun h => h ▸ rfl⟩

/-- A selection on the equality of two small naturals is an ordinary choice. -/
theorem select_eq_ofNat {α : Type} (a b : ℕ) (ha : a < 2 ^ 31) (hb : b < 2 ^ 31) (x y : α) :
    Scalar.select (IntOp.cmpi .eq (BitVec.ofNat 32 a) (BitVec.ofNat 32 b)) x y = if a = b then x else y := by
  rw [cmpi_eq_ofNat a b ha hb]
  unfold Scalar.select
  by_cases h : a = b <;> simp [h]

/-- The reference's word for a count `a` of at most seventeen: one less, kept in 0..15. -/
theorem clip_ofNat (a : ℕ) (ha : a ≤ 17) :
    IntOp.minsi 15#32 (IntOp.maxsi 0#32 (IntOp.subi (BitVec.ofNat 32 a) 1#32)) = BitVec.ofNat 32 (min 15 (a - 1)) := by
  interval_cases a <;> decide

end Cert.Segment
-- ==== Proof.Reference.lean ====
module

public import proofs.«01_k».proof.Proof.Gen.ReferenceIdeal.Run
public import proofs.«01_k».proof.Proof.Segment
public import Idealize.ShloMosaic.Lib.Routing.OpsPair

/-! The reference's result at an index. -/

@[expose] public section

set_option maxRecDepth 16384

noncomputable section

namespace Cert.ReferenceIdeal.Read

open Idealize.ShloMosaic Idealize.SL.Sem
open Cert.ReferenceIdeal Cert.ReferenceIdeal.Gen
open Cert.Segment (column)

/-- Each node's segment as the reference computes it. -/
def segments (rs : Vec Ideal S17 .i32) : IVec S32768 32 := (minsi (broadcastInDim S32768 ![] bcast_S_S32768 (id (constantI S_ 32 15#32))) (maxsi (broadcastInDim S32768 ![] bcast_S_S32768 (id (constantI S_ 32 0#32))) (subi (Host.reduce IntOp.addi (extui 32 (cmpi .sle (broadcastInDim S32768x17 ![0, 1] bcast_S1x17_S32768x17_0_1 (broadcastInDim S1x17 ![1] bcast_S17_S1x17_1 rs)) (broadcastInDim S32768x17 ![0, 1] bcast_S32768x1_S32768x17_0_1 (broadcastInDim S32768x1 ![0] bcast_S32768_S32768x1_0 (iotaInDim S32768 32 0)))) natLt_1_32) (constantI S_ 32 0#32) reducesTo_S32768x17_S32768_d1 h_S_) (broadcastInDim S32768 ![] bcast_S_S32768 (constantI S_ 32 1#32)))))

/-- Each node's output row as the reference computes it. -/
def rows (x : Vec Ideal S32768x64 .f32) (co : Vec Ideal S32768x4 .f32) (W : Vec Ideal S64x128 .f32) (bs : Vec Ideal S128 .f32) : Vec Ideal S32768x32 .f32 :=
  Host.reduceAdd (F := Ideal) (mulf (shapeCast _ (addf (Host.dotGeneral (F := Ideal) (φ₁ := .f32) (φ₂ := .f32) dot_S32768x64_S64x128_S32768x128_1_0_0_1_n_n none x W) (broadcastInDim S32768x128 ![0, 1] bcast_S1x128_S32768x128_0_1 (broadcastInDim S1x128 ![1] bcast_S128_S1x128_1 bs))) shapeCasts_S32768x128_S32768x32x4) (broadcastInDim S32768x32x4 ![0, 1, 2] bcast_S32768x1x4_S32768x32x4_0_1_2 (broadcastInDim S32768x1x4 ![0, 2] bcast_S32768x4_S32768x1x4_0_2 co))) (constant S_ .f32 0x00000000#32) reducesTo_S32768x32x4_S32768x32_d2 h_S_

/-- The rows added up by segment. -/
def total (seg : IVec S32768 32) (upd : Vec Ideal S32768x32 .f32) : Vec Ideal S16x32 .f32 :=
  Host.scatterAdd (F := Ideal) scatter_S16x32_S32768x1_S32768x32_1_0_0_1 (broadcastInDim S16x32 ![] bcast_S_S16x32 (constant S_ .f32 0x00000000#32)) (broadcastInDim S32768x1 ![0] bcast_S32768_S32768x1_0 seg) upd

/-- A node's output row: the linear layer's column for each coordinate, times that coordinate, added up. -/
theorem rows_apply (x : Vec Ideal S32768x64 .f32) (co : Vec Ideal S32768x4 .f32) (W : Vec Ideal S64x128 .f32) (bs : Vec Ideal S128 .f32)
    (n : Fin 32768) (u : Fin 32) : rows x co W bs (ix2 n u) =
      ∑ k : Fin 4, ((∑ d : Fin 64, x (ix2 n d) * W (ix2 d (column u k))) + bs (ix1 (column u k))) * co (ix2 n k) := by
  have h (k : Fin 4) : (⟨u.val * 4 + k.val, by omega⟩ : Fin 128) = column u k := Fin.ext (by simp only [column]; omega)
  unfold rows
  pointwise [dot_S32768x64_S64x128_S32768x128_1_0_0_1_n_n]
  simp only [h]

/-- The reference's segment of node `n`, as a word. -/
theorem segments_apply (rs : Vec Ideal S17 .i32) (n : Fin 32768) :
    segments rs (ix1 n) = BitVec.ofNat 32 (Segment.segment (fun j => rs (ix1 j)) n.val) := by
  have hw := Segment.word_reached (fun j => rs (ix1 j)) n.val (by omega)
  unfold segments
  pointwise
  simp only [hw]
  rw [Segment.fold_addi_ofNat]
  refine Segment.clip_ofNat _ ?_
  calc _ ≤ ∑ _j : Fin 17, 1 := Finset.sum_le_sum fun j _ => Segment.reached_le _ _ j
    _ = 17 := by simp

/-- The node's update lands at its segment's row and its own column. -/
theorem lands (idx : IVec S32768x1 32) (n : Fin 32768) (w : Fin 32) (b : Fin 16) (u : Fin 32) :
    scatter_S16x32_S32768x1_S32768x32_1_0_0_1.resultIdx? (ix2 n w) idx = some (ix2 b u) ↔ (idx (ix2 n 0)).toInt = b.val ∧ w = u := by
  have hs0 : scatter_S16x32_S32768x1_S32768x32_1_0_0_1.start (ix2 n w) idx 0 = (idx (ix2 n 0)).toInt := by
    unfold ScatterDims.start
    rw [dif_pos (by decide)]
    congr 2
    funext a
    match a with
    | ⟨0, _⟩ => rfl
    | ⟨1, _⟩ => rfl
  have hs1 : scatter_S16x32_S32768x1_S32768x32_1_0_0_1.start (ix2 n w) idx 1 = 0 := by
    unfold ScatterDims.start
    rw [dif_neg (by decide)]
  have hw0 : scatter_S16x32_S32768x1_S32768x32_1_0_0_1.window (ix2 n w) 0 = 0 := by
    unfold ScatterDims.window
    rw [dif_neg (by decide)]
  have hw1 : scatter_S16x32_S32768x1_S32768x32_1_0_0_1.window (ix2 n w) 1 = w.val := by
    unfold ScatterDims.window
    rw [dif_pos (by decide)]
    rfl
  rw [Routing.resultIdx?_eq_some]
  constructor
  · intro h
    have h0 := h 0
    have h1 := h 1
    rw [hs0, hw0] at h0
    rw [hs1, hw1] at h1
    simp only [ix2_0, ix2_1] at h0 h1
    exact ⟨by omega, Fin.ext (by omega)⟩
  · rintro ⟨h, rfl⟩ a
    match a with
    | ⟨0, _⟩ => show ScatterDims.start _ _ _ 0 + (ScatterDims.window _ _ 0 : ℤ) = _; rw [hs0, hw0, h]; simp
    | ⟨1, _⟩ => show ScatterDims.start _ _ _ 1 + (ScatterDims.window _ _ 1 : ℤ) = _; rw [hs1, hw1]; simp

/-- The reference's result at segment `b`: the rows of the nodes whose segment word is `b`. -/
theorem total_apply (seg : IVec S32768 32) (upd : Vec Ideal S32768x32 .f32) (b : Fin 16) (u : Fin 32) :
    total seg upd (ix2 b u) = ∑ n : Fin 32768, if (seg (ix1 n)).toInt = b.val then upd (ix2 n u) else 0 := by
  unfold total
  show Ideal.hostScatterAdd _ _ _ _ _ = _
  unfold Ideal.hostScatterAdd
  have hz : broadcastInDim S16x32 ![] bcast_S_S16x32 (constant (F := Ideal) S_ .f32 0x00000000#32) (ix2 b u) = 0 := by pointwise
  have hi (n : Fin 32768) : broadcastInDim S32768x1 ![0] bcast_S32768_S32768x1_0 seg (ix2 n 0) = seg (ix1 n) := by pointwise
  rw [hz, zero_add, Finset.sum_filter, sum_idx2]
  refine Finset.sum_congr rfl fun n _ => ?_
  simp only [lands, hi, ite_and]
  split
  · rw [Finset.sum_ite_eq' Finset.univ u fun w => upd (ix2 n w), if_pos (Finset.mem_univ u)]
  · exact Finset.sum_const_zero

/-- The reference's sum: over the nodes of segment `b`, the node's layer output contracted with its coordinates. -/
def referenceSum (x : Vec Ideal S32768x64 .f32) (co : Vec Ideal S32768x4 .f32) (rs : Vec Ideal S17 .i32) (W : Vec Ideal S64x128 .f32)
    (bs : Vec Ideal S128 .f32) (b : Fin 16) (u : Fin 32) : EReal :=
  ∑ n : Fin 32768, if Segment.segment (fun j => rs (ix1 j)) n.val = b.val then
    ∑ k : Fin 4, ((∑ d : Fin 64, x (ix2 n d) * W (ix2 d (column u k))) + bs (ix1 (column u k))) * co (ix2 n k) else 0

/-- The reference's result array at segment `b` and unit `u` is that sum. -/
theorem result_apply (x : Vec Ideal S32768x64 .f32) (co : Vec Ideal S32768x4 .f32) (rs : Vec Ideal S17 .i32) (W : Vec Ideal S64x128 .f32)
    (bs : Vec Ideal S128 .f32) (b : Fin 16) (u : Fin 32) :
    total (segments rs) (rows x co W bs) (ix2 b u) = referenceSum x co rs W bs b u := by
  rw [total_apply]
  unfold referenceSum
  refine Finset.sum_congr rfl fun n _ => ?_
  have hle : Segment.segment (fun j => rs (ix1 j)) n.val ≤ 15 := Nat.min_le_left _ _
  rw [segments_apply, rows_apply, WordCmp.toInt_ofNat_of_lt (by omega)]
  simp only [Nat.cast_inj]

end Cert.ReferenceIdeal.Read
-- ==== Proof.Step.lean ====
module

public import proofs.«01_k».proof.Proof.Gen.KernelIdeal.Value
public import Idealize.ShloMosaic.Lib.Pointwise
public import Idealize.ShloMosaic.Lib.Tactic
public import Idealize.ShloMosaic.Lib.Pipeline.ReadBack

/-! What each grid point leaves in the accumulators and, at the last point, in the result, as functions of the input blocks. -/

@[expose] public section

noncomputable section

namespace Cert.KernelIdeal.Step

open Idealize.ShloMosaic Idealize.SL.Sem
open Cert.KernelIdeal Cert.KernelIdeal.Gen

/-- The zero offsets of a two-axis rectangle, as a constant function. -/
theorem offsets_zero : (![0, 0] : Fin 2 → Nat) = fun _ => 0 := funext fun a => by fin_cases a <;> rfl

/-- Each of the two zero offsets is zero. -/
theorem rows_zero : ∀ a : Fin 2, (![0, 0] : Fin 2 → Nat) a = 0 := fun a => by fin_cases a <;> rfl

/-- The segment word of each lane of the block at grid point `i`: how many of the splits `1 … 15` are at most the
    lane's global row. -/
def segWord (i : grid0.Coords) (x0 : Vec Ideal S17 .i32) : IVec S1x16384 32 :=
  k0_pay8 (F := Ideal) (k0_pay5 i)
    (k0_pay6 (F := Ideal) i (x0 (ix1 1)) (x0 (ix1 2)) (x0 (ix1 3)) (x0 (ix1 4)) (x0 (ix1 5)) (x0 (ix1 6)) (x0 (ix1 7)))
    (k0_pay7 (F := Ideal) i (x0 (ix1 8)))
    (x0 (ix1 9)) (x0 (ix1 10)) (x0 (ix1 11)) (x0 (ix1 12)) (x0 (ix1 13)) (x0 (ix1 14)) (x0 (ix1 15))

/-- The row number of each element of a `64 × 16384` array. -/
abbrev rowIota : IVec S64x16384 32 := iota .tc S64x16384 32 [0] iota_S64x16384_d0_w32

/-- The coordinate-weighted one-hot matrix of the block at grid point `i`, sixty-four rows over the block's lanes. -/
def enc (i : grid0.Coords) (x0 : Vec Ideal S17 .i32) (x2 : Vec Ideal S4x16384 .f32) : FVec Ideal S64x16384 .f32 :=
  k0_pay15 (F := Ideal) (segWord i x0) (k0_pay9 (F := Ideal) x2) (k0_pay11 16#32 k0_pay10 0#32) (k0_pay12 rowIota)
    (k0_pay13 (F := Ideal) (k0_pay9 (F := Ideal) x2) rowIota) (k0_pay14 rowIota)

/-- The feature accumulator after the block: what it held plus the one-hot matrix times the block's node features. -/
def featAcc (i : grid0.Coords) (x0 : Vec Ideal S17 .i32) (x1 : Vec Ideal S16384x64 .f32) (x2 : Vec Ideal S4x16384 .f32)
    (acc : Vec Ideal S64x64 .f32) : Vec Ideal S64x64 .f32 :=
  k0_pay16 (F := Ideal) (segWord i x0) x1 (k0_pay9 (F := Ideal) x2) (k0_pay11 16#32 k0_pay10 0#32) (k0_pay12 rowIota)
    (k0_pay13 (F := Ideal) (k0_pay9 (F := Ideal) x2) rowIota) (k0_pay14 rowIota) acc

/-- The coordinate accumulator after the block: what it held plus the one-hot matrix's row sums. -/
def coordAcc (i : grid0.Coords) (x0 : Vec Ideal S17 .i32) (x2 : Vec Ideal S4x16384 .f32)
    (acc : Vec Ideal S64x1 .f32) : Vec Ideal S64x1 .f32 :=
  k0_pay17 (F := Ideal) (segWord i x0) (k0_pay9 (F := Ideal) x2) (k0_pay11 16#32 k0_pay10 0#32) (k0_pay12 rowIota)
    (k0_pay13 (F := Ideal) (k0_pay9 (F := Ideal) x2) rowIota) (k0_pay14 rowIota) acc

/-- Sixteen rows of the feature accumulator, from row `o`. -/
abbrev featRows (X : Vec Ideal S64x64 .f32) (o : Nat) (h : ∀ a, ![o, 0] a + S16x64.size a ≤ S64x64.size a) : Vec Ideal S16x64 .f32 :=
  View.ld X (Rect.unit (s := S64x64) ![o, 0] S16x64.size h)
/-- Sixteen rows of the coordinate accumulator, from row `o`. -/
abbrev coordRows (X : Vec Ideal S64x1 .f32) (o : Nat) (h : ∀ a, ![o, 0] a + S16x1.size a ≤ S64x1.size a) : Vec Ideal S16x1 .f32 :=
  View.ld X (Rect.unit (s := S64x1) ![o, 0] S16x1.size h)
/-- Sixty-four rows of the regrouped weights, from row `o`. -/
abbrev weightRows (X : Vec Ideal S256x32 .f32) (o : Nat) (h : ∀ a, ![o, 0] a + S64x32.size a ≤ S256x32.size a) : Vec Ideal S64x32 .f32 :=
  View.ld X (Rect.unit (s := S256x32) ![o, 0] S64x32.size h)
/-- Row `o` of the regrouped bias. -/
abbrev biasRow (X : Vec Ideal S4x32 .f32) (o : Nat) (h : ∀ a, ![o, 0] a + S1x32.size a ≤ S4x32.size a) : Vec Ideal S1x32 .f32 :=
  View.ld X (Rect.unit (s := S4x32) ![o, 0] S1x32.size h)

/-- The closing combination of the two accumulators with the regrouped weights and bias. -/
def combine (M : Vec Ideal S64x64 .f32) (C : Vec Ideal S64x1 .f32) (x3 : Vec Ideal S256x32 .f32) (x4 : Vec Ideal S4x32 .f32) :
    Vec Ideal S16x32 .f32 :=
  k0_pay1 (F := Ideal)
    (k0_pay2 (F := Ideal)
      (featRows M 0 inb_S64x64_S16x64_0_0) (weightRows x3 0 inb_S256x32_S64x32_0_0)
      (coordRows C 0 inb_S64x1_S16x1_0_0) (biasRow x4 0 inb_S4x32_S1x32_0_0)
      (featRows M 16 inb_S64x64_S16x64_16_0) (weightRows x3 64 inb_S256x32_S64x32_64_0)
      (coordRows C 16 inb_S64x1_S16x1_16_0) (biasRow x4 1 inb_S4x32_S1x32_1_0)
      (featRows M 32 inb_S64x64_S16x64_32_0) (weightRows x3 128 inb_S256x32_S64x32_128_0))
    (coordRows C 32 inb_S64x1_S16x1_32_0) (biasRow x4 2 inb_S4x32_S1x32_2_0)
    (featRows M 48 inb_S64x64_S16x64_48_0) (weightRows x3 192 inb_S256x32_S64x32_192_0)
    (coordRows C 48 inb_S64x1_S16x1_48_0) (biasRow x4 3 inb_S4x32_S1x32_3_0)

variable (c : Dev nD) (i : grid0.Coords)
  (a1 : Memref sig .tc .smem S17 .i32) (h1 : a1.IsWhole) (a2 : Memref sig .tc .vmem S16384x64 .f32) (h2 : a2.IsWhole)
  (a3 : Memref sig .tc .vmem S4x16384 .f32) (h3 : a3.IsWhole) (a4 : Memref sig .tc .vmem S256x32 .f32) (h4 : a4.IsWhole)
  (a5 : Memref sig .tc .vmem S4x32 .f32) (h5 : a5.IsWhole) (a6 : Memref sig .tc .vmem S16x32 .f32) (h6 : a6.IsWhole)
  (a7 : Memref sig .tc .vmem S64x64 .f32) (h7 : a7.IsWhole) (a8 : Memref sig .tc .vmem S64x1 .f32) (h8 : a8.IsWhole)
  (x0 : Vec Ideal S17 .i32) (x1 : Vec Ideal S16384x64 .f32) (x2 : Vec Ideal S4x16384 .f32)
  (x3 : Vec Ideal S256x32 .f32) (x4 : Vec Ideal S4x32 .f32)

/-- A one-word load of the splits at position `k` reads the split `k`. -/
theorem split_read (k : Nat) (hk : k < 17) (inb : ∀ a, ![k] a + S1.size a ≤ S17.size a) (hf : 0 < (Rect.unit (s := S17) ![k] S1.size inb).toLoadRect.shape.numel) :
    View.readAt (Elt Ideal) a1.view (Rect.unit (s := S17) ![k] S1.size inb).toLoadRect (h1.unread x0) (Shape.Idx.first hf)
      = x0 (ix1 ⟨k, hk⟩) := by
  rw [View.readAt_eq_ld, h1.read_unread]
  show x0 _ = x0 _
  congr 1
  funext a
  fin_cases a
  rfl

/-- After the first grid point the feature accumulator is the block's contribution over zero. -/
theorem featAcc_first (hc0 : cond0_0 i) (hc1 : ¬cond0_1 i) :
    sout0_A_0 c i a1 h1 a2 h2 a3 h3 a4 h4 a5 h5 a6 h6 a7 h7 a8 h8 hc0 hc1 x0 x1 x2 x3 x4 = featAcc i x0 x1 x2 (k0_pay3 (F := Ideal)) := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S64x64) offsets_zero, View.readCov_unit_zero (S := S64x64) _ offsets_zero]
  simp only [split_read a1 h1 x0 1 (by decide), split_read a1 h1 x0 2 (by decide), split_read a1 h1 x0 3 (by decide), split_read a1 h1 x0 4 (by decide), split_read a1 h1 x0 5 (by decide), split_read a1 h1 x0 6 (by decide), split_read a1 h1 x0 7 (by decide), split_read a1 h1 x0 8 (by decide), split_read a1 h1 x0 9 (by decide), split_read a1 h1 x0 10 (by decide), split_read a1 h1 x0 11 (by decide), split_read a1 h1 x0 12 (by decide), split_read a1 h1 x0 13 (by decide), split_read a1 h1 x0 14 (by decide), split_read a1 h1 x0 15 (by decide)]
  simp only [View.readAt_eq_ld, h2.read_unread, h3.read_unread, View.ld_unit_zero (S := S16384x64) offsets_zero, View.ld_unit_zero (S := S4x16384) offsets_zero]
  rfl

/-- After the first grid point the coordinate accumulator is the block's contribution over zero. -/
theorem coordAcc_first (hc0 : cond0_0 i) (hc1 : ¬cond0_1 i) :
    sout0_A_1 c i a1 h1 a2 h2 a3 h3 a4 h4 a5 h5 a6 h6 a7 h7 a8 h8 hc0 hc1 x0 x1 x2 x3 x4 = coordAcc i x0 x2 (k0_pay4 (F := Ideal)) := by
  unfold sout0_A_1
  rw [View.read_writes_eq_canon _ _ _ (scover0_A_1 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S64x1) offsets_zero, View.readCov_unit_zero (S := S64x1) _ offsets_zero]
  simp only [split_read a1 h1 x0 1 (by decide), split_read a1 h1 x0 2 (by decide), split_read a1 h1 x0 3 (by decide), split_read a1 h1 x0 4 (by decide), split_read a1 h1 x0 5 (by decide), split_read a1 h1 x0 6 (by decide), split_read a1 h1 x0 7 (by decide), split_read a1 h1 x0 8 (by decide), split_read a1 h1 x0 9 (by decide), split_read a1 h1 x0 10 (by decide), split_read a1 h1 x0 11 (by decide), split_read a1 h1 x0 12 (by decide), split_read a1 h1 x0 13 (by decide), split_read a1 h1 x0 14 (by decide), split_read a1 h1 x0 15 (by decide)]
  simp only [View.readAt_eq_ld, h3.read_unread, View.ld_unit_zero (S := S4x16384) offsets_zero]
  rfl

/-- At the last grid point the output is the closing combination of the two accumulators carried one block further. -/
theorem out_last (hc0 : ¬cond0_0 i) (hc1 : cond0_1 i) (xs0 : Vec Ideal S64x64 .f32) (xs1 : Vec Ideal S64x1 .f32) :
    out0_B_5 c i a1 h1 a2 h2 a3 h3 a4 h4 a5 h5 a6 h6 a7 h7 a8 h8 hc0 hc1 x0 x1 x2 x3 x4 xs0 xs1 = combine (featAcc i x0 x1 x2 xs0) (coordAcc i x0 x2 xs1) x3 x4 := by
  unfold out0_B_5
  rw [View.read_writes_eq_canon _ _ _ (cover0_B_5 c i a1 h1 a2 h2 a3 h3 a4 h4 a5 h5 a6 h6 a7 h7 a8 h8 hc0 hc1 x0 x1 x2 x3 x4 xs0 xs1)]
  unfold kernelRun0_B
  dsimp only
  sl_unfold_words
  rw [View.canon_unit_zero offsets_zero]
  simp only [split_read a1 h1 x0 1 (by decide), split_read a1 h1 x0 2 (by decide), split_read a1 h1 x0 3 (by decide), split_read a1 h1 x0 4 (by decide), split_read a1 h1 x0 5 (by decide), split_read a1 h1 x0 6 (by decide), split_read a1 h1 x0 7 (by decide), split_read a1 h1 x0 8 (by decide), split_read a1 h1 x0 9 (by decide), split_read a1 h1 x0 10 (by decide), split_read a1 h1 x0 11 (by decide), split_read a1 h1 x0 12 (by decide), split_read a1 h1 x0 13 (by decide), split_read a1 h1 x0 14 (by decide), split_read a1 h1 x0 15 (by decide)]
  simp only [View.readCov_fill (s := S64x64) _ _ _ _ _ rows_zero, View.readCov_fill (s := S64x1) _ _ _ _ _ rows_zero]
  simp only [View.readAt_eq_ld, h2.read_unread, h3.read_unread, h4.read_unread, h5.read_unread, h7.read_unread, h8.read_unread,
    View.ld_unit_zero (S := S16384x64) offsets_zero, View.ld_unit_zero (S := S4x16384) offsets_zero,
    View.ld_unit_zero (S := S64x64) offsets_zero, View.ld_unit_zero (S := S64x1) offsets_zero]
  rfl

end Cert.KernelIdeal.Step
-- ==== Proof.Lanes.lean ====
module

public import proofs.«01_k».proof.Proof.Step
public import Idealize.ShloMosaic.Lib.Pointwise
public import proofs.«01_k».proof.Proof.Segment

/-! The kernel's own steps read at an index: the row words, the segment words, the one-hot block, the two accumulators and the tail. -/

@[expose] public section

set_option maxRecDepth 16384

noncomputable section

namespace Cert.KernelIdeal.Step

open Idealize.ShloMosaic Idealize.SL.Sem
open Cert.KernelIdeal Cert.KernelIdeal.Gen

/-- The accumulator row of coordinate `c` and segment `b`. -/
def row (c : Fin 4) (b : Fin 16) : Fin 64 := ⟨16 * c.val + b.val, by omega⟩

/-- The weight row of coordinate `c` and input feature `d`. -/
def weightRow (c : Fin 4) (d : Fin 64) : Fin 256 := ⟨64 * c.val + d.val, by omega⟩

/-- The last point's tail: four products over the sixteen-row slices of the feature accumulator, each with the coordinate sums' share of the bias, added up. -/
theorem combine_apply (M : Vec Ideal S64x64 .f32) (C : Vec Ideal S64x1 .f32) (x3 : Vec Ideal S256x32 .f32) (x4 : Vec Ideal S4x32 .f32)
    (b : Fin 16) (u : Fin 32) : combine M C x3 x4 (ix2 b u) =
      ∑ c : Fin 4, ((∑ d : Fin 64, M (ix2 (row c b) d) * x3 (ix2 (weightRow c d) u)) + C (ix2 (row c b) 0) * x4 (ix2 c u)) := by
  unfold combine k0_pay1 k0_pay2
  pointwise [dot_S16x64_S64x32_S16x32_1_0_0_1_n_n, View.ld_unit]
  rw [Fin.sum_univ_four]
  have r0 : row 0 b = ⟨b.val, by omega⟩ := Fin.ext (by simp [row])
  have w0 (d : Fin 64) : weightRow 0 d = ⟨d.val, by omega⟩ := Fin.ext (by simp [weightRow])
  simp only [r0, w0, ← add_assoc]
  rfl

/-- A block's step of the feature accumulator adds the one-hot row times the node features' column. -/
theorem featAcc_apply (i : grid0.Coords) (x0 : Vec Ideal S17 .i32) (x1 : Vec Ideal S16384x64 .f32) (x2 : Vec Ideal S4x16384 .f32)
    (acc : Vec Ideal S64x64 .f32) (r d : Fin 64) : featAcc i x0 x1 x2 acc (ix2 r d) = acc (ix2 r d) + ∑ l : Fin 16384, enc i x0 x2 (ix2 r l) * x1 (ix2 l d) := by
  unfold featAcc k0_pay16 enc
  pointwise [dot_S64x16384_S16384x64_S64x64_1_0_0_1_n_n]

/-- A block's step of the coordinate accumulator adds the one-hot row's sum. -/
theorem coordAcc_apply (i : grid0.Coords) (x0 : Vec Ideal S17 .i32) (x2 : Vec Ideal S4x16384 .f32)
    (acc : Vec Ideal S64x1 .f32) (r : Fin 64) : coordAcc i x0 x2 acc (ix2 r 0) = acc (ix2 r 0) + ∑ l : Fin 16384, enc i x0 x2 (ix2 r l) := by
  unfold coordAcc k0_pay17 enc
  pointwise

/-- The word the kernel computes for a row's segment is the row number modulo sixteen. -/
theorem rowSeg (r : Fin 64) (l : Fin 16384) : k0_pay11 16#32 k0_pay10 0#32 (ix2 r l) = BitVec.ofNat 32 (r.val % 16) := by
  unfold k0_pay11 k0_pay10
  pointwise
  revert r
  decide +kernel

/-- The word the kernel computes for a row's coordinate is the row number divided by sixteen. -/
theorem rowCoord (r : Fin 64) (l : Fin 16384) : k0_pay12 rowIota (ix2 r l) = BitVec.ofNat 32 (r.val / 16) := by
  unfold k0_pay12
  pointwise
  revert r
  decide +kernel

/-- The node number of lane `l` at grid point `i`, as a word. -/
theorem node_word (i : grid0.Coords) (l : Fin 16384) :
    IntOp.addi (Scalar.muli (BitVec.ofNat 32 (i 0).val) 16384#32) (BitVec.ofNat 32 l.val) = BitVec.ofNat 32 ((i 0).val * 16384 + l.val) := by
  rw [← Segment.addi_ofNat, BitVec.ofNat_mul]; rfl

/-- The segment word of lane `l` counts the inner row splits reached by that lane's node. -/
theorem segWord_apply (i : grid0.Coords) (x0 : Vec Ideal S17 .i32) (l : Fin 16384) :
    segWord i x0 (ix2 0 l) = BitVec.ofNat 32 (Segment.inner (fun j => x0 (ix1 j)) ((i 0).val * 16384 + l.val)) := by
  have hn : (i 0).val * 16384 + l.val < 2 ^ 31 := by have := (i 0).isLt; have := l.isLt; simp [grid0] at *; omega
  have hw := Segment.word_reached_ge (fun j => x0 (ix1 j)) _ hn
  unfold segWord k0_pay8 k0_pay7 k0_pay6 k0_pay5
  pointwise
  rw [node_word]
  have h0 : (0#32 : BitVec 32) = BitVec.ofNat 32 0 := rfl
  rw [hw 1, hw 2, hw 3, hw 4, hw 5, hw 6, hw 7, hw 8, hw 9, hw 10, hw 11, hw 12, hw 13, hw 14, hw 15, h0]
  simp only [Segment.addi_ofNat]
  rw [Segment.inner, Segment.sum_inner]

/-- The one-hot row `16 c + b` holds coordinate `c` at the lanes whose node lies in segment `b`, and zero elsewhere. -/
theorem enc_apply (i : grid0.Coords) (x0 : Vec Ideal S17 .i32) (x2 : Vec Ideal S4x16384 .f32) (c : Fin 4) (b : Fin 16) (l : Fin 16384) :
    enc i x0 x2 (ix2 (row c b) l) =
      if Segment.inner (fun j => x0 (ix1 j)) ((i 0).val * 16384 + l.val) = b.val then x2 (ix2 c l) else 0 := by
  have hi := Segment.inner_le (fun j => x0 (ix1 j)) ((i 0).val * 16384 + l.val)
  have h1 : (row c b).val % 16 = b.val := by simp [row]
  have h2 : (row c b).val / 16 = c.val := by simp [row]; omega
  have hs (k : ℕ) (hk : k < 2 ^ 31) (x y : EReal) : Scalar.select (IntOp.cmpi .eq (BitVec.ofNat 32 c.val) (BitVec.ofNat 32 k)) x y = if c.val = k then x else y :=
    Segment.select_eq_ofNat _ _ (by omega) hk x y
  unfold enc k0_pay15 k0_pay13 k0_pay14 k0_pay9
  pointwise
  rw [rowSeg, rowCoord, segWord_apply, h1, h2, Segment.select_eq_ofNat _ _ (by omega) (by omega)]
  rw [hs 0 (by omega), hs 1 (by omega), hs 2 (by omega), hs 3 (by omega)]
  simp only [eq_comm (a := b.val)]
  congr 1
  fin_cases c <;> simp

end Cert.KernelIdeal.Step
-- ==== Proof.Blocks.lean ====
module

public import proofs.«01_k».proof.Proof.Lanes
public import Idealize.ShloMosaic.Lib.StableHlo.ReadAt

/-! What the kernel's five input blocks hold at each grid point, as elements of the program's arguments. -/

@[expose] public section

set_option maxRecDepth 16384

noncomputable section

namespace Cert.KernelIdeal.Step

open Idealize.ShloMosaic Idealize.ShloMosaic.TcCoe Idealize.SL.Sem
open Cert.KernelIdeal Cert.KernelIdeal.Gen
open Cert.Segment (column)

variable (m : (ℓ : Loc nD τ sig) → Buf (Elt Ideal) ℓ) (c : Dev nD)

/-- Node number of lane `l` of block `t`. -/
def node (t : Fin 2) (l : Fin 16384) : Fin 32768 := ⟨t.val * 16384 + l.val, by omega⟩

/-- The permuted weights the host prefix builds: row `64 k + d` holds input feature `d` of coordinate `k`. -/
theorem weights_apply (k : Fin 4) (d : Fin 64) (u : Fin 32) :
    (V m c main_v2 : Vec Ideal S256x32 .f32) (ix2 (weightRow k d) u) = (m ((c : Thread nD τ).loc main_arg3) : Vec Ideal S64x128 .f32) (ix2 d (column u k)) := by
  show StableHlo.after hostOps0 _ (Proc.devRef .tc main_v2) _ = _
  after_reads_at
  have h1 : (⟨(weightRow k d).val % 64, by omega⟩ : Fin 64) = d := Fin.ext (by simp [weightRow])
  have h2 : (⟨u.val * 4 + (weightRow k d).val / 64, by have := (weightRow k d).isLt; omega⟩ : Fin 128) = column u k :=
    Fin.ext (by simp only [weightRow, column]; omega)
  rw [h1, h2]

/-- The permuted bias the host prefix builds. -/
theorem bias_apply (k : Fin 4) (u : Fin 32) :
    (V m c main_v4 : Vec Ideal S4x32 .f32) (ix2 k u) = (m ((c : Thread nD τ).loc main_arg4) : Vec Ideal S128 .f32) (ix1 (column u k)) := by
  show StableHlo.after hostOps0 _ (Proc.devRef .tc main_v4) _ = _
  after_reads_at
  have h : (⟨u.val * 4 + k.val, by omega⟩ : Fin 128) = column u k := Fin.ext (by simp only [column]; omega)
  rw [h]

/-- The transposed coordinates the host prefix builds. -/
theorem coords_apply (k : Fin 4) (n : Fin 32768) :
    (V m c main_v5 : Vec Ideal S4x32768 .f32) (ix2 k n) = (m ((c : Thread nD τ).loc main_arg1) : Vec Ideal S32768x4 .f32) (ix2 n k) := by
  show StableHlo.after hostOps0 _ (Proc.devRef .tc main_v5) _ = _
  after_reads_at

/-- The row splits' window holds the whole argument at every point. -/
theorem splits_block (t : Fin cfg0.N) (j : Fin 17) :
    (iblk m c 0 t : Vec Ideal S17 .i32) (ix1 j) = (m ((c : Thread nD τ).loc main_arg2) : Vec Ideal S17 .i32) (ix1 j) := by
  have hi : win0_0.index t 0 = 0 := by rcases fin_N0 t with rfl | rfl <;> decide
  unfold iblk
  rw [View.read_apply]
  refine Eq.trans ?_ (congrFun (V_main_arg2 m c) _)
  show V m c main_arg2 _ = V m c main_arg2 _
  congr 1
  funext a
  apply Fin.ext
  match a with
  | ⟨0, _⟩ => show win0_0.index t 0 * 17 + 1 * j.val = j.val; rw [hi]; omega

/-- The node window at point `t` holds rows `16384 t ..` of the node features. -/
theorem nodes_block (t : Fin cfg0.N) (l : Fin 16384) (d : Fin 64) :
    (iblk m c 1 t : Vec Ideal S16384x64 .f32) (ix2 l d) = (m ((c : Thread nD τ).loc main_arg0) : Vec Ideal S32768x64 .f32) (ix2 (node (t.cast N_0) l) d) := by
  have hi : win0_1.index t 0 = t.val ∧ win0_1.index t 1 = 0 := by rcases fin_N0 t with rfl | rfl <;> decide
  unfold iblk
  rw [View.read_apply]
  refine Eq.trans ?_ (congrFun (V_main_arg0 m c) _)
  show V m c main_arg0 _ = V m c main_arg0 _
  congr 1
  funext a
  apply Fin.ext
  match a with
  | ⟨0, _⟩ => show win0_1.index t 0 * 16384 + 1 * l.val = t.val * 16384 + l.val; rw [hi.1]; omega
  | ⟨1, _⟩ => show win0_1.index t 1 * 64 + 1 * d.val = d.val; rw [hi.2]; omega

/-- The coordinate window at point `t` holds the coordinates of the same nodes, transposed. -/
theorem coords_block (t : Fin cfg0.N) (k : Fin 4) (l : Fin 16384) :
    (iblk m c 2 t : Vec Ideal S4x16384 .f32) (ix2 k l) = (m ((c : Thread nD τ).loc main_arg1) : Vec Ideal S32768x4 .f32) (ix2 (node (t.cast N_0) l) k) := by
  have hi : win0_2.index t 0 = 0 ∧ win0_2.index t 1 = t.val := by rcases fin_N0 t with rfl | rfl <;> decide
  refine Eq.trans ?_ (coords_apply m c k _)
  unfold iblk
  rw [View.read_apply]
  show V m c main_v5 _ = V m c main_v5 _
  congr 1
  funext a
  apply Fin.ext
  match a with
  | ⟨0, _⟩ => show win0_2.index t 0 * 4 + 1 * k.val = k.val; rw [hi.1]; omega
  | ⟨1, _⟩ => show win0_2.index t 1 * 16384 + 1 * l.val = t.val * 16384 + l.val; rw [hi.2]; omega

/-- The weight window holds the permuted weights at every point. -/
theorem weights_block (t : Fin cfg0.N) (k : Fin 4) (d : Fin 64) (u : Fin 32) :
    (iblk m c 3 t : Vec Ideal S256x32 .f32) (ix2 (weightRow k d) u) = (m ((c : Thread nD τ).loc main_arg3) : Vec Ideal S64x128 .f32) (ix2 d (column u k)) := by
  have hi : win0_3.index t 0 = 0 ∧ win0_3.index t 1 = 0 := by rcases fin_N0 t with rfl | rfl <;> decide
  refine Eq.trans ?_ (weights_apply m c k d u)
  unfold iblk
  rw [View.read_apply]
  show V m c main_v2 _ = V m c main_v2 _
  congr 1
  funext a
  apply Fin.ext
  match a with
  | ⟨0, _⟩ => show win0_3.index t 0 * 256 + 1 * (weightRow k d).val = (weightRow k d).val; rw [hi.1]; omega
  | ⟨1, _⟩ => show win0_3.index t 1 * 32 + 1 * u.val = u.val; rw [hi.2]; omega

/-- The bias window holds the permuted bias at every point. -/
theorem bias_block (t : Fin cfg0.N) (k : Fin 4) (u : Fin 32) :
    (iblk m c 4 t : Vec Ideal S4x32 .f32) (ix2 k u) = (m ((c : Thread nD τ).loc main_arg4) : Vec Ideal S128 .f32) (ix1 (column u k)) := by
  have hi : win0_4.index t 0 = 0 ∧ win0_4.index t 1 = 0 := by rcases fin_N0 t with rfl | rfl <;> decide
  refine Eq.trans ?_ (bias_apply m c k u)
  unfold iblk
  rw [View.read_apply]
  show V m c main_v4 _ = V m c main_v4 _
  congr 1
  funext a
  apply Fin.ext
  match a with
  | ⟨0, _⟩ => show win0_4.index t 0 * 4 + 1 * k.val = k.val; rw [hi.1]; omega
  | ⟨1, _⟩ => show win0_4.index t 1 * 32 + 1 * u.val = u.val; rw [hi.2]; omega

end Cert.KernelIdeal.Step
-- ==== Proof.Result.lean ====
module

public import proofs.«01_k».proof.Proof.Blocks

/-! The kernel's result array at an index, as sums over all nodes of the program's arguments. -/

@[expose] public section

set_option maxRecDepth 16384

noncomputable section

namespace Cert.KernelIdeal.Step

open Idealize.ShloMosaic Idealize.ShloMosaic.TcCoe Idealize.SL.Sem
open Cert.KernelIdeal Cert.KernelIdeal.Gen Cert.KernelIdeal.Value
open Cert.Segment (column)

variable (m : (ℓ : Loc nD τ sig) → Buf (Elt Ideal) ℓ) (c : Dev nD)

/-- The first point's node features accumulated onto zero. -/
abbrev feat0 : Vec Ideal S64x64 .f32 := featAcc (grid0.coords t0_0) (iblk m c 0 t0_0) (iblk m c 1 t0_0) (iblk m c 2 t0_0) (k0_pay3 (F := Ideal))

/-- The first point's coordinates accumulated onto zero. -/
abbrev coord0 : Vec Ideal S64x1 .f32 := coordAcc (grid0.coords t0_0) (iblk m c 0 t0_0) (iblk m c 2 t0_0) (k0_pay4 (F := Ideal))

/-- The result array is the tail applied to the two accumulators after both points. -/
theorem result_eq : G5 m c = combine
    (featAcc (grid0.coords t0_1) (iblk m c 0 t0_1) (iblk m c 1 t0_1) (iblk m c 2 t0_1) (feat0 m c))
    (coordAcc (grid0.coords t0_1) (iblk m c 0 t0_1) (iblk m c 2 t0_1) (coord0 m c))
    (iblk m c 3 t0_1) (iblk m c 4 t0_1) := by
  rw [G5_last, Pipeline.accAt_succ]
  have hB (acc) := stAt0_B m c t0_1 acc (by decide) (by decide)
  have hA (acc) := stAt0_A m c t0_0 acc (by decide) (by decide)
  show (stAt0 m c t0_1.val t0_1.isLt (stAt0 m c t0_0.val t0_0.isLt junk0)).1 = _
  rw [hB, hA]
  dsimp only
  rw [out_last]
  rw [featAcc_first, coordAcc_first]

/-- The grid point's coordinate is its number. -/
theorem coords_val (t : Fin cfg0.N) : (grid0.coords t 0).val = t.val := by
  rcases fin_N0 t with rfl | rfl <;> decide

/-- A sum over `a + b` indices splits at `a`. -/
theorem sum_split {N a b : ℕ} (h : N = a + b) (f : Fin N → EReal) :
    ∑ n, f n = (∑ l : Fin a, f ⟨l.val, by omega⟩) + ∑ l : Fin b, f ⟨a + l.val, by omega⟩ := by
  subst h
  exact Fin.sum_univ_add f

/-- A sum over all nodes is the first block's sum plus the second's. -/
theorem sum_nodes (f : Fin 32768 → EReal) : (∑ l, f (node 0 l)) + ∑ l, f (node 1 l) = ∑ n, f n := by
  rw [sum_split (show 32768 = 16384 + 16384 by norm_num) f]
  have e0 (l : Fin 16384) : node 0 l = ⟨l.val, by omega⟩ := Fin.ext (by show 0 * 16384 + l.val = l.val; omega)
  have e1 (l : Fin 16384) : node 1 l = ⟨16384 + l.val, by omega⟩ := Fin.ext (by show 1 * 16384 + l.val = 16384 + l.val; omega)
  simp only [e0, e1]

/-- Coordinate `k` of node `n` when the node lies in segment `b`, zero otherwise. -/
def lane (rs : Vec Ideal S17 .i32) (co : Vec Ideal S32768x4 .f32) (k : Fin 4) (b : Fin 16) (n : Fin 32768) : EReal :=
  if Segment.inner (fun j => rs (ix1 j)) n.val = b.val then co (ix2 n k) else 0

/-- The encoded block at point `t` is the lanes of that point's nodes. -/
theorem enc_block (t : Fin cfg0.N) (k : Fin 4) (b : Fin 16) (l : Fin 16384) :
    enc (grid0.coords t) (iblk m c 0 t) (iblk m c 2 t) (ix2 (row k b) l) =
      lane (m ((c : Thread nD τ).loc main_arg2)) (m ((c : Thread nD τ).loc main_arg1)) k b (node (t.cast N_0) l) := by
  have hs : (fun j => (iblk m c 0 t : Vec Ideal S17 .i32) (ix1 j)) = fun j => (m ((c : Thread nD τ).loc main_arg2) : Vec Ideal S17 .i32) (ix1 j) :=
    funext fun j => splits_block m c t j
  rw [enc_apply, hs, coords_val, coords_block]
  rfl

/-- The kernel's order of summation: over nodes first, then the products with the weights and the bias. -/
def kernelSum (x : Vec Ideal S32768x64 .f32) (co : Vec Ideal S32768x4 .f32) (rs : Vec Ideal S17 .i32) (W : Vec Ideal S64x128 .f32)
    (bs : Vec Ideal S128 .f32) (b : Fin 16) (u : Fin 32) : EReal :=
  ∑ k : Fin 4, ((∑ d : Fin 64, (∑ n : Fin 32768, lane rs co k b n * x (ix2 n d)) * W (ix2 d (column u k)))
    + (∑ n : Fin 32768, lane rs co k b n) * bs (ix1 (column u k)))

/-- The feature accumulator after both points: a sum over all nodes. -/
theorem feat_apply (k : Fin 4) (b : Fin 16) (d : Fin 64) :
    featAcc (grid0.coords t0_1) (iblk m c 0 t0_1) (iblk m c 1 t0_1) (iblk m c 2 t0_1) (feat0 m c) (ix2 (row k b) d) =
      ∑ n : Fin 32768, lane (m ((c : Thread nD τ).loc main_arg2)) (m ((c : Thread nD τ).loc main_arg1)) k b n
        * (m ((c : Thread nD τ).loc main_arg0) : Vec Ideal S32768x64 .f32) (ix2 n d) := by
  have hz : (k0_pay3 (F := Ideal)) (ix2 (row k b) d) = 0 := by unfold k0_pay3; pointwise
  unfold feat0
  rw [← sum_nodes, featAcc_apply, featAcc_apply, hz, zero_add]
  refine congrArg₂ (· + ·) (Finset.sum_congr rfl fun l _ => ?_) (Finset.sum_congr rfl fun l _ => ?_)
  · rw [enc_block, nodes_block]; rfl
  · rw [enc_block, nodes_block]; rfl

/-- The coordinate accumulator after both points: a sum over all nodes. -/
theorem coord_apply (k : Fin 4) (b : Fin 16) :
    coordAcc (grid0.coords t0_1) (iblk m c 0 t0_1) (iblk m c 2 t0_1) (coord0 m c) (ix2 (row k b) 0) =
      ∑ n : Fin 32768, lane (m ((c : Thread nD τ).loc main_arg2)) (m ((c : Thread nD τ).loc main_arg1)) k b n := by
  have hz : (k0_pay4 (F := Ideal)) (ix2 (row k b) 0) = 0 := by unfold k0_pay4; pointwise
  unfold coord0
  rw [← sum_nodes, coordAcc_apply, coordAcc_apply, hz, zero_add]
  refine congrArg₂ (· + ·) (Finset.sum_congr rfl fun l _ => ?_) (Finset.sum_congr rfl fun l _ => ?_)
  · rw [enc_block]; rfl
  · rw [enc_block]; rfl

/-- The tail after both points, at segment `b` and unit `u`. -/
theorem tail_apply (b : Fin 16) (u : Fin 32) : combine
      (featAcc (grid0.coords t0_1) (iblk m c 0 t0_1) (iblk m c 1 t0_1) (iblk m c 2 t0_1) (feat0 m c))
      (coordAcc (grid0.coords t0_1) (iblk m c 0 t0_1) (iblk m c 2 t0_1) (coord0 m c))
      (iblk m c 3 t0_1) (iblk m c 4 t0_1) (ix2 b u) =
    kernelSum (m ((c : Thread nD τ).loc main_arg0)) (m ((c : Thread nD τ).loc main_arg1)) (m ((c : Thread nD τ).loc main_arg2))
      (m ((c : Thread nD τ).loc main_arg3)) (m ((c : Thread nD τ).loc main_arg4)) b u := by
  unfold kernelSum
  rw [combine_apply]
  simp only [feat_apply, coord_apply, weights_block, bias_block]

/-- The kernel's result at segment `b` and unit `u`. -/
theorem result_apply (b : Fin 16) (u : Fin 32) : (G5 m c : Vec Ideal S16x32 .f32) (ix2 b u) =
    kernelSum (m ((c : Thread nD τ).loc main_arg0)) (m ((c : Thread nD τ).loc main_arg1)) (m ((c : Thread nD τ).loc main_arg2))
      (m ((c : Thread nD τ).loc main_arg3)) (m ((c : Thread nD τ).loc main_arg4)) b u :=
  (congrFun (result_eq m c) (ix2 b u)).trans (tail_apply m c b u)

end Cert.KernelIdeal.Step
-- ==== Proof.Equation.lean ====
module

public import proofs.«01_k».proof.Proof.Reference
public import proofs.«01_k».proof.Proof.Result

/-! On sorted row splits and finite floats the two orders of summation agree. -/

@[expose] public section

set_option maxRecDepth 16384

noncomputable section

namespace Cert.Equation

open Idealize.ShloMosaic
open Cert.KernelIdeal Cert.KernelIdeal.Step Cert.ReferenceIdeal.Read
open Cert.Segment (column)

/-- An extended real whose magnitude is below infinity is a real. -/
theorem real_of_finite (v : EReal) (h : BitVec.ofBool (decide (max v (-v) < Ideal.ofBits .f32 0x7F800000#32)) = 1#1) : ∃ r : ℝ, v = r := by
  have htop : Ideal.ofBits .f32 0x7F800000#32 = ⊤ := by simp [Ideal.ofBits, Ideal.ieee]
  rw [htop] at h
  have hlt : max v (-v) < ⊤ := by
    by_contra hn
    simp [hn] at h
  induction v using EReal.rec with
  | bot => simp at hlt
  | coe r => exact ⟨r, rfl⟩
  | top => simp at hlt

variable (x : Vec Ideal S32768x64 .f32) (co : Vec Ideal S32768x4 .f32) (rs : Vec Ideal S17 .i32) (W : Vec Ideal S64x128 .f32)
    (bs : Vec Ideal S128 .f32)

/-- The precondition's first result: the row splits, read as signed numbers, are sorted. -/
theorem sorted_of_pre [Cert.Pre_sorted_and_finite.Facts] (h : (Cert.Pre_sorted_and_finite.fn (F := Ideal) x co rs W bs).1 = fun _ => 1#1) :
    Monotone fun j : Fin 17 => (rs (ix1 j)).toInt := by
  refine Fin.monotone_iff_le_succ.2 fun j => ?_
  have hj := congrFun h (ix1 j)
  unfold Cert.Pre_sorted_and_finite.fn at hj
  pointwise at hj
  have e0 : (⟨j.val, by omega⟩ : Fin 17) = j.castSucc := rfl
  have e1 : (⟨1 + j.val, by omega⟩ : Fin 17) = j.succ := Fin.ext (by simp [Nat.add_comm])
  rw [e0, e1, WordCmp.cmpi_sle_eq] at hj
  by_contra hn
  simp [hn] at hj

/-- The precondition's second result: every node feature is a real. -/
theorem features_real [Cert.Pre_sorted_and_finite.Facts] (h : (Cert.Pre_sorted_and_finite.fn (F := Ideal) x co rs W bs).2.1 = fun _ => 1#1)
    (n : Fin 32768) (d : Fin 64) : ∃ r : ℝ, x (ix2 n d) = r := by
  have hj := congrFun h (ix2 n d)
  unfold Cert.Pre_sorted_and_finite.fn at hj
  pointwise at hj
  exact real_of_finite _ hj

/-- The precondition's third result: every coordinate is a real. -/
theorem coords_real [Cert.Pre_sorted_and_finite.Facts] (h : (Cert.Pre_sorted_and_finite.fn (F := Ideal) x co rs W bs).2.2.1 = fun _ => 1#1)
    (n : Fin 32768) (k : Fin 4) : ∃ r : ℝ, co (ix2 n k) = r := by
  have hj := congrFun h (ix2 n k)
  unfold Cert.Pre_sorted_and_finite.fn at hj
  pointwise at hj
  exact real_of_finite _ hj

/-- The precondition's fourth result: every weight is a real. -/
theorem weights_real [Cert.Pre_sorted_and_finite.Facts] (h : (Cert.Pre_sorted_and_finite.fn (F := Ideal) x co rs W bs).2.2.2.1 = fun _ => 1#1)
    (d : Fin 64) (q : Fin 128) : ∃ r : ℝ, W (ix2 d q) = r := by
  have hj := congrFun h (ix2 d q)
  unfold Cert.Pre_sorted_and_finite.fn at hj
  pointwise at hj
  exact real_of_finite _ hj

/-- The precondition's fifth result: every bias element is a real. -/
theorem bias_real [Cert.Pre_sorted_and_finite.Facts] (h : (Cert.Pre_sorted_and_finite.fn (F := Ideal) x co rs W bs).2.2.2.2 = fun _ => 1#1)
    (q : Fin 128) : ∃ r : ℝ, bs (ix1 q) = r := by
  have hj := congrFun h (ix1 q)
  unfold Cert.Pre_sorted_and_finite.fn at hj
  pointwise at hj
  exact real_of_finite _ hj

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a real and zero, read in the extended reals. -/
theorem coe_ite (p : Prop) [Decidable p] (r : ℝ) : ((if p then r else 0 : ℝ) : EReal) = if p then (r : EReal) else 0 := by
  split <;> simp

/-- Over the reals: summing over nodes first and multiplying by the weights afterwards is summing each node's contracted layer output. -/
theorem real_sums {N D K : ℕ} (p : Fin N → Prop) [DecidablePred p] (x : Fin N → Fin D → ℝ) (co : Fin N → Fin K → ℝ) (W : Fin D → Fin K → ℝ) (bs : Fin K → ℝ) :
    ∑ k, ((∑ d, (∑ n, (if p n then co n k else 0) * x n d) * W d k) + (∑ n, if p n then co n k else 0) * bs k) =
      ∑ n, if p n then ∑ k, ((∑ d, x n d * W d k) + bs k) * co n k else 0 := by
  have hR (n : Fin N) : (if p n then ∑ k, ((∑ d, x n d * W d k) + bs k) * co n k else 0) =
      ∑ k, ((∑ d, (if p n then co n k else 0) * x n d * W d k) + (if p n then co n k else 0) * bs k) := by
    split
    · refine Finset.sum_congr rfl fun k _ => ?_
      rw [add_mul, Finset.sum_mul, mul_comm (bs k)]
      congr 1
      refine Finset.sum_congr rfl fun d _ => ?_
      ring
    · simp
  simp only [hR]
  rw [Finset.sum_comm]
  refine Finset.sum_congr rfl fun k _ => ?_
  rw [Finset.sum_add_distrib, Finset.sum_mul, Finset.sum_comm]
  simp only [Finset.sum_mul]

/-- On sorted row splits and real arrays the kernel's sum is the reference's. -/
theorem sums_eq (hrs : Monotone fun j : Fin 17 => (rs (ix1 j)).toInt) (hx : ∀ n d, ∃ r : ℝ, x (ix2 n d) = r) (hco : ∀ n k, ∃ r : ℝ, co (ix2 n k) = r)
    (hW : ∀ d q, ∃ r : ℝ, W (ix2 d q) = r) (hbs : ∀ q, ∃ r : ℝ, bs (ix1 q) = r) (b : Fin 16) (u : Fin 32) :
    kernelSum x co rs W bs b u = referenceSum x co rs W bs b u := by
  choose x' hx' using hx
  choose co' hco' using hco
  choose W' hW' using hW
  choose bs' hbs' using hbs
  have h := congrArg (fun r : ℝ => (r : EReal)) (real_sums (fun n : Fin 32768 => Segment.inner (fun j => rs (ix1 j)) n.val = b.val)
    x' co' (fun d k => W' d (column u k)) (fun k => bs' (column u k)))
  unfold kernelSum referenceSum lane
  simp only [hx', hco', hW', hbs', Segment.segment_eq_inner _ hrs]
  simp only [coe_sum, coe_ite, EReal.coe_add, EReal.coe_mul] at h
  exact h

end Cert.Equation
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_sorted_and_finite
public import proofs.«01_k».proof.Proof.Gen.ReferenceIdeal.Run
public import proofs.«01_k».proof.Proof.Equation
public import Idealize.ShloMosaic.Adequacy
public import Idealize.ShloMosaic.Init
public import Idealize.ShloMosaic.Lib.Quiescent

/-! The proof of `Cert.Claim`. The kernel's result comes from Proof/Result.lean, the reference's from Proof/Reference.lean,
    and Proof/Equation.lean shows that they agree on sorted row splits and finite floats. -/

@[expose] public section

noncomputable section

namespace Cert.Proof

open Idealize.ShloMosaic Idealize.SL.Sem

/-- The reference terminates with its arguments unchanged and its counters zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem reference_frame_pre : quiescent_ReferenceIdeal_pre_sorted_and_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On sorted row splits and finite floats the kernel and the reference, run on the same arguments, leave the same result. -/
theorem values_agree : algebraic_KernelIdeal_ReferenceIdeal_pre_sorted_and_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  obtain ⟨hs, hx, hco, hW, hbs⟩ := hpre c
  funext i
  rw [eq_ix2 (n0 := 16) (n1 := 32) i]
  refine (Cert.ReferenceIdeal.Read.result_apply _ _ _ _ _ (i 0) (i 1)).trans ?_
  refine Eq.trans ?_ (Cert.KernelIdeal.Step.result_apply m c (i 0) (i 1)).symm
  exact (Cert.Equation.sums_eq _ _ _ _ _ (Cert.Equation.sorted_of_pre _ _ _ _ _ hs) (Cert.Equation.features_real _ _ _ _ _ hx)
    (Cert.Equation.coords_real _ _ _ _ _ hco) (Cert.Equation.weights_real _ _ _ _ _ hW) (Cert.Equation.bias_real _ _ _ _ _ hbs) (i 0) (i 1)).symm

/-- All the claims of this certificate. -/
theorem claim : Cert.Claim := ⟨Cert.Kernel.Gen.facts, Cert.KernelIdeal.Gen.facts, Cert.ReferenceIdeal.Gen.facts, Cert.Pre_sorted_and_finite.Gen.facts,
  fun m ρ _ => Cert.Kernel.Gen.frame m ρ, fun m ρ _ => Cert.KernelIdeal.Gen.frame m ρ, fun m ρ _ => Cert.KernelIdeal.Gen.frame m ρ,
  reference_frame, reference_frame_pre, (trivial : preserves_Kernel_KernelIdeal), values_agree⟩

end Cert.Proof

end
